-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_cache [hPre_fresh_cache : Cert.Pre_fresh_cache.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_cache [hPre_fresh_cache : Cert.Pre_fresh_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_fresh_cache [hKernelIdeal : Cert.KernelIdeal.Facts] [hPre_fresh_cache : Cert.Pre_fresh_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_cache m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_fresh_cache [hReferenceIdeal : Cert.ReferenceIdeal.Facts] [hPre_fresh_cache : Cert.Pre_fresh_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_fresh_cache [hKernelIdeal : Cert.KernelIdeal.Facts] [hReferenceIdeal : Cert.ReferenceIdeal.Facts] [hPre_fresh_cache : Cert.Pre_fresh_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_cache m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_fresh_cache : Cert.Pre_fresh_cache.Facts),
    quiescent_Kernel (hKernel := hKernel)
    ∧ quiescent_KernelIdeal (hKernelIdeal := hKernelIdeal)
    ∧ quiescent_KernelIdeal_pre_fresh_cache (hKernelIdeal := hKernelIdeal) (hPre_fresh_cache := hPre_fresh_cache)
    ∧ quiescent_ReferenceIdeal (hReferenceIdeal := hReferenceIdeal)
    ∧ quiescent_ReferenceIdeal_pre_fresh_cache (hReferenceIdeal := hReferenceIdeal) (hPre_fresh_cache := hPre_fresh_cache)
    ∧ preserves_Kernel_KernelIdeal
    ∧ algebraic_KernelIdeal_ReferenceIdeal_pre_fresh_cache (hKernelIdeal := hKernelIdeal) (hReferenceIdeal := hReferenceIdeal) (hPre_fresh_cache := hPre_fresh_cache)
-- ==== Pre_fresh_cache.lean ====
abbrev S8x32x4096x128 : Shape := ⟨4, ![8, 32, 4096, 128]⟩
abbrev S8x32x4096 : Shape := ⟨3, ![8, 32, 4096]⟩
abbrev S8x32x4096x16 : Shape := ⟨4, ![8, 32, 4096, 16]⟩
abbrev S16 : Shape := ⟨1, ![16]⟩
abbrev S8x16x32x128 : Shape := ⟨4, ![8, 16, 32, 128]⟩
abbrev S8x16x32 : Shape := ⟨3, ![8, 16, 32]⟩
abbrev S8x16x32x16 : Shape := ⟨4, ![8, 16, 32, 16]⟩
abbrev S_ : Shape := ⟨0, ![]⟩

class Facts : Prop where
  bitsLt_bf16_f32 : FTy.bits .bf16 < FTy.bits .f32
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  h_S_ : 0 < S_.numel
  reducesTo_S16_S_d0 : S16.ReducesTo [0] S_

variable [Facts]

def fn {F : FTy → Type} [FloatOps F] (main_arg0 : FVec F S8x32x4096x128 .bf16) (main_arg1 : FVec F S8x32x4096x128 .bf16) (main_arg2 : FVec F S8x32x4096 .f16) (main_arg3 : IVec S8x32x4096x16 16) (main_arg4 : IVec S16 32) (main_arg5 : FVec F S8x16x32x128 .f32) (main_arg6 : FVec F S8x16x32x128 .f32) (main_arg7 : FVec F S8x16x32 .f16) (main_arg8 : IVec S8x16x32x16 32) : IVec S_ 1 :=
  let main_v0 : FVec F S8x32x4096x128 .f32 := (extf .f32 · bitsLt_bf16_f32) main_arg0
  let main_cst : FVec F S_ .f32 := constant S_ .f32 0x00000000#32
  let main_v1 : FVec F S8x32x4096x128 .f32 := broadcastInDim S8x32x4096x128 ![] bcast_S_S8x32x4096x128 main_cst
  let main_v2 : IVec S8x32x4096x128 1 := cmpf .oeq main_v0 main_v1
  let main_c : IVec S_ 1 := constantI S_ 1 1#1
  let main_v3 : IVec S_ 1 := (fun x v => Host.reduce IntOp.andi x v reducesTo_S8x32x4096x128_S_d0_1_2_3 h_S_) main_v2 main_c
  let main_v4 : FVec F S8x32x4096x128 .f32 := (extf .f32 · bitsLt_bf16_f32) main_arg1
  let main_cst_0 : FVec F S_ .f32 := constant S_ .f32 0x00000000#32
  let main_v5 : FVec F S8x32x4096x128 .f32 := broadcastInDim S8x32x4096x128 ![] bcast_S_S8x32x4096x128 main_cst_0
  let main_v6 : IVec S8x32x4096x128 1 := cmpf .oeq main_v4 main_v5
  let main_c_1 : IVec S_ 1 := constantI S_ 1 1#1
  let main_v7 : IVec S_ 1 := (fun x v => Host.reduce IntOp.andi x v reducesTo_S8x32x4096x128_S_d0_1_2_3 h_S_) main_v6 main_c_1
  let main_v8 : IVec S_ 1 := andi main_v3 main_v7
  let main_v9 : IVec S16 32 := iotaInDim S16 32 0
  let main_v10 : IVec S16 1 := cmpi .eq main_arg4 main_v9
  let main_c_2 : IVec S_ 1 := constantI S_ 1 1#1
  let main_v11 : IVec S_ 1 := (fun x v => Host.reduce IntOp.andi x v reducesTo_S16_S_d0 h_S_) main_v10 main_c_2
  let main_v12 : IVec S_ 1 := andi main_v8 main_v11
  main_v12
-- ==== Kernel.lean ====
abbrev S8x32x4096x128 : Shape := ⟨4, ![8, 32, 4096, 128]⟩
abbrev S8x32x4096 : Shape := ⟨3, ![8, 32, 4096]⟩
abbrev S8x32x4096x16 : Shape := ⟨4, ![8, 32, 4096, 16]⟩
abbrev S16 : Shape := ⟨1, ![16]⟩
abbrev S8x16x32x128 : Shape := ⟨4, ![8, 16, 32, 128]⟩
abbrev S8x16x32 : Shape := ⟨3, ![8, 16, 32]⟩
abbrev S8x16x32x16 : Shape := ⟨4, ![8, 16, 32, 16]⟩
abbrev S8x16x4096 : Shape := ⟨3, ![8, 16, 4096]⟩
abbrev S1x16x4080x128 : Shape := ⟨4, ![1, 16, 4080, 128]⟩
abbrev S8x32x16x128 : Shape := ⟨4, ![8, 32, 16, 128]⟩
abbrev S_ : Shape := ⟨0, ![]⟩
abbrev S8x16x128 : Shape := ⟨3, ![8, 16, 128]⟩
abbrev S8x1x16x128 : Shape := ⟨4, ![8, 1, 16, 128]⟩

abbrev nBuf : Space → Nat
  | .hbm => 13
  | .vmem => 5
  | .smem => 0
  | _ => 0

abbrev bufTy : (tb : Table) → Fin (tcTables nBuf tb) → BufTy
  | .hbm, ⟨0, _⟩ => ⟨S8x32x4096x128, .bf16⟩
  | .hbm, ⟨1, _⟩ => ⟨S8x32x4096x128, .bf16⟩
  | .hbm, ⟨2, _⟩ => ⟨S8x32x4096, .f16⟩
  | .hbm, ⟨3, _⟩ => ⟨S8x32x4096x16, .i16⟩
  | .hbm, ⟨4, _⟩ => ⟨S16, .i32⟩
  | .hbm, ⟨5, _⟩ => ⟨S8x16x32x128, .f32⟩
  | .hbm, ⟨6, _⟩ => ⟨S8x16x32x128, .f32⟩
  | .hbm, ⟨7, _⟩ => ⟨S8x16x32, .f16⟩
  | .hbm, ⟨8, _⟩ => ⟨S8x16x32x16, .i32⟩
  | .hbm, ⟨9, _⟩ => ⟨S8x16x4096, .f32⟩
  | .hbm, ⟨10, _⟩ => ⟨S8x16x4096, .f32⟩
  | .hbm, ⟨11, _⟩ => ⟨S8x32x4096x128, .bf16⟩
  | .hbm, ⟨12, _⟩ => ⟨S8x32x4096x128, .bf16⟩
  | .local _ .vmem, ⟨0, _⟩ => ⟨S8x16x4096, .f32⟩
  | .local _ .vmem, ⟨1, _⟩ => ⟨S8x16x4096, .f32⟩
  | .local _ .vmem, ⟨2, _⟩ => ⟨S1x16x4080x128, .bf16⟩
  | .local _ .vmem, ⟨3, _⟩ => ⟨S8x32x16x128, .bf16⟩
  | .local _ .vmem, ⟨4, _⟩ => ⟨S8x32x16x128, .bf16⟩
  | _, _ => ⟨S8x32x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x32x4096x128 : Shape := ⟨4, ![8, 32, 4096, 128]⟩
abbrev S8x32x4096 : Shape := ⟨3, ![8, 32, 4096]⟩
abbrev S8x32x4096x16 : Shape := ⟨4, ![8, 32, 4096, 16]⟩
abbrev S16 : Shape := ⟨1, ![16]⟩
abbrev S8x16x32x128 : Shape := ⟨4, ![8, 16, 32, 128]⟩
abbrev S8x16x32 : Shape := ⟨3, ![8, 16, 32]⟩
abbrev S8x16x32x16 : Shape := ⟨4, ![8, 16, 32, 16]⟩
abbrev S8x32x16x128 : Shape := ⟨4, ![8, 32, 16, 128]⟩
abbrev S_ : Shape := ⟨0, ![]⟩
abbrev S16x1 : Shape := ⟨2, ![16, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x32x4096x128, .bf16⟩
  | .hbm, ⟨1, _⟩ => ⟨S8x32x4096x128, .bf16⟩
  | .hbm, ⟨2, _⟩ => ⟨S8x32x4096, .f16⟩
  | .hbm, ⟨3, _⟩ => ⟨S8x32x4096x16, .i16⟩
  | .hbm, ⟨4, _⟩ => ⟨S16, .i32⟩
  | .hbm, ⟨5, _⟩ => ⟨S8x16x32x128, .f32⟩
  | .hbm, ⟨6, _⟩ => ⟨S8x16x32x128, .f32⟩
  | .hbm, ⟨7, _⟩ => ⟨S8x16x32, .f16⟩
  | .hbm, ⟨8, _⟩ => ⟨S8x16x32x16, .i32⟩
  | .hbm, ⟨9, _⟩ => ⟨S8x32x16x128, .f32⟩
  | .hbm, ⟨10, _⟩ => ⟨S8x32x16x128, .bf16⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S8x32x4096x128, .bf16⟩
  | .hbm, ⟨20, _⟩ => ⟨S8x32x16x128, .f32⟩
  | .hbm, ⟨21, _⟩ => ⟨S8x32x16x128, .bf16⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16x1, .i32⟩
  | .hbm, ⟨30, _⟩ => ⟨S8x32x4096x128, .bf16⟩
  | _, _ => ⟨S8x32x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Block.lean ====
/- WHAT THE KERNEL'S VMEM BUFFERS HOLD. The head block: one new row set per head, the block's own column range of the
   incoming values, rounded to the cache's format; and the zero block. Pure functions of the values read, and the one
   equation a store of a head needs. -/
module

public import proofs.«01_k».proof.Proof.Gen.Kernel.Skeleton
public import Idealize.ShloMosaic.Lib.PointwiseCore

@[expose] public section

noncomputable section

namespace Cert.Proof.Block

open Cert.Kernel Cert.Kernel.Gen
open Idealize.ShloMosaic

variable {F : FTy → Type} [FloatOps F]

/-- The new rows as the kernel lays them out in VMEM: entry (b, h, t, d) is the incoming value at batch b, token t and
    column 128 h + d, rounded to bf16. -/
def heads (x : Vec F S8x16x4096 .f32) : Vec F S8x32x16x128 .bf16 := fun y =>
  FloatOps.truncf .bf16 bitsLt_bf16_f32
    (x (ix3 (y 0) (y 2) ⟨128 * (y 1).val + (y 3).val, by
      have h1 : (y 1).val < 32 := (y 1).isLt
      have h3 : (y 3).val < 128 := (y 3).isLt
      show _ < 4096
      omega⟩))

/-- The zero of the cache's format. -/
def zeroVal : F .bf16 := Scalar.ofBits .bf16 0x0000#16

/-- One head's payload: the 128 columns read, rounded, with a unit axis for the head. -/
def headRows (v : Vec F S8x16x128 .f32) : FVec F S8x1x16x128 .bf16 :=
  shapeCast S8x1x16x128 (truncf .bf16 (shapeCast S8x16x128 v shapeCasts_S8x16x128_S8x16x128) bitsLt_bf16_f32)
    shapeCasts_S8x16x128_S8x1x16x128

/-- The payload stored for head h is `heads` on that head's rectangle: h names the rectangle of the store, o = 128 h the
    first column of the load. -/
theorem headRows_piece (x : Vec F S8x16x4096 .f32) (h o : ℕ) (ho : o = 128 * h)
    (hl : ∀ a, (![0, 0, o] : Fin 3 → ℕ) a + S8x16x128.size a ≤ S8x16x4096.size a)
    (hs : ∀ a, (![0, h, 0, 0] : Fin 4 → ℕ) a + S8x1x16x128.size a ≤ S8x32x16x128.size a) (y : S8x1x16x128.Idx) :
    headRows (fun i : S8x16x128.Idx => x ((Rect.unit (s := S8x16x4096) ![0, 0, o] S8x16x128.size hl).emb i)) y
      = heads x ((Rect.unit (s := S8x32x16x128) ![0, h, 0, 0] S8x1x16x128.size hs).emb y) := by
  subst ho
  idx_vars y
  unfold headRows heads
  pointwise
  congr 2
  funext a
  apply Fin.ext
  match a with
  | 0 => rfl
  | 1 => rfl
  | 2 =>
    have h1 : y1.val = 0 := by omega
    show 128 * h + 1 * y3.val = 128 * (h + 1 * y1.val) + (0 + 1 * y3.val)
    omega

/-- The zero payload is zero at every entry. -/
theorem zero_piece (y : S1x16x4080x128.Idx) : k0_pay1 (F := F) y = zeroVal := by
  unfold k0_pay1 zeroVal
  pointwise

end Cert.Proof.Block

end
-- ==== Proof.Regions.lean ====
/- THE RESULTS CUT INTO THE TRANSFERS' DESTINATIONS. Each of the two results is written by seventeen transfers: the first
   sixteen positions of every batch and head by one, and each remaining half batch (sixteen heads, positions 16 to 4095) by one.
   An element's destination is named by a number; a destination slice is exactly the elements of its number. -/
module

public import proofs.«01_k».proof.Proof.Block
public import proofs.«01_k».proof.Proof.Gen.Kernel.Launch

@[expose] public section

noncomputable section

namespace Cert.Proof.Regions

open Cert.Kernel Cert.Kernel.Gen Cert.Proof.Block
open Idealize.ShloMosaic

variable {F : FTy → Type} [FloatOps F]

/-- The zero buffer, the two buffers of new rows, and the two results. -/
abbrev zM : Memref sig .tc .vmem S1x16x4080x128 .bf16 := Memref.whole cc0_scratch0
abbrev kM : Memref sig .tc .vmem S8x32x16x128 .bf16 := Memref.whole cc0_scratch1
abbrev vM : Memref sig .tc .vmem S8x32x16x128 .bf16 := Memref.whole cc0_scratch2
abbrev oK : Memref sig .tc .hbm S8x32x4096x128 .bf16 := Memref.whole main_v2_0
abbrev oV : Memref sig .tc .hbm S8x32x4096x128 .bf16 := Memref.whole main_v2_1

/-- The number of the transfer that writes an element: 0 for the first sixteen positions, else 1 + 2 b + h / 16. -/
def cls (i : S8x32x4096x128.Idx) : ℕ := if (i 2).val < 16 then 0 else 1 + 2 * (i 0).val + (i 1).val / 16

/-- The elements the transfer numbered `t` writes, when the result's transfers are numbered from `base` on. -/
def blk (base : ℕ) (t : Fin 34) : Finset S8x32x4096x128.Idx := Finset.univ.filter fun i => base + cls i = t.val

theorem cls_lt (i : S8x32x4096x128.Idx) : cls i < 17 := by
  have h0 : (i 0).val < 8 := (i 0).isLt
  have h1 : (i 1).val < 32 := (i 1).isLt
  unfold cls
  split <;> omega

/-- Different transfers write disjoint elements, -/
theorem blk_disjoint (base : ℕ) (t t' : Fin 34) (h : t ≠ t') : Disjoint (blk base t) (blk base t') :=
  Finset.disjoint_left.mpr fun i hi hi' => h (Fin.ext (by
    rw [← (Finset.mem_filter.mp hi).2, ← (Finset.mem_filter.mp hi').2]))

/-- and together all of them. -/
theorem blk_cover (base : ℕ) (hb : base + 17 ≤ 34) (i : S8x32x4096x128.Idx) : ∃ t ∈ (Finset.univ : Finset (Fin 34)), i ∈ blk base t := by
  have := cls_lt i
  exact ⟨⟨base + cls i, by omega⟩, Finset.mem_univ _, Finset.mem_filter.mpr ⟨Finset.mem_univ _, rfl⟩⟩

/-- A result has no element of a transfer outside its own seventeen. -/
theorem blk_empty (base : ℕ) (t : Fin 34) (h : t.val < base ∨ base + 17 ≤ t.val) : blk base t = ∅ :=
  Finset.filter_eq_empty_iff.mpr fun i _ he => by have := cls_lt i; omega

/-- The first transfer's destination is the elements numbered 0. -/
theorem head_set (base : ℕ) (t : Fin 34) (ht : t.val = base)
    (inb : ∀ a, (![0, 0, 0, 0] : Fin 4 → ℕ) a + S8x32x16x128.size a ≤ S8x32x4096x128.size a) :
    (Rect.unit (s := S8x32x4096x128) ![0, 0, 0, 0] S8x32x16x128.size inb).set = blk base t := by
  ext i
  have h0 : (i 0).val < 8 := (i 0).isLt
  have h1 : (i 1).val < 32 := (i 1).isLt
  have h3 : (i 3).val < 128 := (i 3).isLt
  rw [Rect.mem_set_unit, Fin.forall_fin_succ, Fin.forall_fin_succ, Fin.forall_fin_succ, Fin.forall_fin_one]
  simp only [blk, Finset.mem_filter, Finset.mem_univ, true_and, cls]
  show ((0 ≤ (i 0).val ∧ (i 0).val < 0 + 8) ∧ (0 ≤ (i 1).val ∧ (i 1).val < 0 + 32) ∧ (0 ≤ (i 2).val ∧ (i 2).val < 0 + 16)
    ∧ (0 ≤ (i 3).val ∧ (i 3).val < 0 + 128)) ↔ _
  split <;> omega

/-- A zero transfer's destination — batch b, sixteen heads from h = 16 u, the positions from 16 on — is the elements
    numbered 1 + 2 b + u. -/
theorem zero_set (base : ℕ) (t : Fin 34) (b h u : ℕ) (hh : h = 16 * u) (hu : u < 2) (ht : t.val = base + (1 + 2 * b + u))
    (inb : ∀ a, (![b, h, 16, 0] : Fin 4 → ℕ) a + S1x16x4080x128.size a ≤ S8x32x4096x128.size a) :
    (Rect.unit (s := S8x32x4096x128) ![b, h, 16, 0] S1x16x4080x128.size inb).set = blk base t := by
  subst hh
  ext i
  have h0 : (i 0).val < 8 := (i 0).isLt
  have h1 : (i 1).val < 32 := (i 1).isLt
  have h2 : (i 2).val < 4096 := (i 2).isLt
  have h3 : (i 3).val < 128 := (i 3).isLt
  rw [Rect.mem_set_unit, Fin.forall_fin_succ, Fin.forall_fin_succ, Fin.forall_fin_succ, Fin.forall_fin_one]
  simp only [blk, Finset.mem_filter, Finset.mem_univ, true_and, cls]
  show ((b ≤ (i 0).val ∧ (i 0).val < b + 1) ∧ (16 * u ≤ (i 1).val ∧ (i 1).val < 16 * u + 16) ∧ (16 ≤ (i 2).val ∧ (i 2).val < 16 + 4080)
    ∧ (0 ≤ (i 3).val ∧ (i 3).val < 0 + 128)) ↔ _
  split <;> omega

/-- A whole result: the new rows at the first sixteen positions, zero at the others. -/
def updated (x : Vec F S8x16x4096 .f32) : Vec F S8x32x4096x128 .bf16 := fun i =>
  if h : (i 2).val < 16 then heads x (ix4 (i 0) (i 1) ⟨(i 2).val, h⟩ (i 3)) else zeroVal

theorem updated_head (x : Vec F S8x16x4096 .f32)
    (inb : ∀ a, (![0, 0, 0, 0] : Fin 4 → ℕ) a + S8x32x16x128.size a ≤ S8x32x4096x128.size a) (y : S8x32x16x128.Idx) :
    heads x y = updated x ((Rect.unit (s := S8x32x4096x128) ![0, 0, 0, 0] S8x32x16x128.size inb).emb y) := by
  have h2 : (y 2).val < 16 := (y 2).isLt
  refine Eq.trans ?_ (dif_pos (show 0 + 1 * (y 2).val < 16 by omega)).symm
  congr 1
  funext a
  apply Fin.ext
  match a with
  | 0 => show (y 0).val = 0 + 1 * (y 0).val; omega
  | 1 => show (y 1).val = 0 + 1 * (y 1).val; omega
  | 2 => show (y 2).val = 0 + 1 * (y 2).val; omega
  | 3 => show (y 3).val = 0 + 1 * (y 3).val; omega

theorem updated_zero (x : Vec F S8x16x4096 .f32) (b h : ℕ)
    (inb : ∀ a, (![b, h, 16, 0] : Fin 4 → ℕ) a + S1x16x4080x128.size a ≤ S8x32x4096x128.size a) (y : S1x16x4080x128.Idx) :
    zeroVal = updated x ((Rect.unit (s := S8x32x4096x128) ![b, h, 16, 0] S1x16x4080x128.size inb).emb y) := by
  refine Eq.trans ?_ (dif_neg (show ¬ 16 + 1 * (y 2).val < 16 by omega)).symm
  rfl

end Cert.Proof.Regions

end
-- ==== Proof.Flights.lean ====
/- THE THIRTY-FOUR TRANSFERS ON ONE SEMAPHORE. What each transfer takes with it and gives back, the step that issues the next
   one, and the step that waits for the next one. The transfers are numbered in the order they are issued: 0 to 16 fill the
   first result, 17 to 33 the second; 0 and 17 carry the new rows, the others zero. -/
module

public import proofs.«01_k».proof.Proof.Regions
public import Idealize.ShloMosaic.Lib.Pipeline.FrameBody
public import Idealize.ShloMosaic.Lib.MixedBatch
public import Idealize.ShloMosaic.Lib.Ring
public import Idealize.ShloMosaic.Lib.Tactic

@[expose] public section

set_option maxRecDepth 16384

noncomputable section

namespace Cert.Proof.Flights

open Cert.Kernel Cert.Kernel.Gen Cert.Proof.Block Cert.Proof.Regions
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- The transfers' one cell. -/
abbrev cell : SemLoc sig := SemLoc.dma (SemArray.sem cc0_scratch3)

/-- A transfer's amount: the new rows' or a zero block's. -/
def amt (t : Fin 34) : ℕ :=
  if t.val = 0 ∨ t.val = 17 then (main_v2_0 : Ref sig .tc).dmaCredit S8x32x16x128 .bf16
  else (main_v2_0 : Ref sig .tc).dmaCredit S1x16x4080x128 .bf16

theorem amt_pos (t : Fin 34) : 0 < amt t := by
  unfold amt
  split
  · exact sig.dmaCredit_pos _ _ _ _ _ (by decide)
  · exact sig.dmaCredit_pos _ _ _ _ _ (by decide)

/-- The zero buffer at a share. -/
abbrev zeros (c : Dev nD) (q : PosShare TreeShare) : sProp 𝕄 :=
  zM.view.loc (c : Thread nD τ) ↦[zM.view.set]{q} (fun _ => zeroVal (F := F) : S1x16x4080x128.Idx → F .bf16)
/-- The new rows of the two results. -/
abbrev rowsK (c : Dev nD) (x : Vec F S8x16x4096 .f32) : sProp 𝕄 := kM.view.loc (c : Thread nD τ) ↦[kM.view.set]{fullShare} heads x
abbrev rowsV (c : Dev nD) (x : Vec F S8x16x4096 .f32) : sProp 𝕄 := vM.view.loc (c : Thread nD τ) ↦[vM.view.set]{fullShare} heads x
/-- A transfer's elements of the two results. -/
abbrev partK (c : Dev nD) (g : Vec F S8x32x4096x128 .bf16) (t : Fin 34) : sProp 𝕄 :=
  oK.view.loc (c : Thread nD τ) ↦[blk 0 t]{fullShare} g
abbrev partV (c : Dev nD) (g : Vec F S8x32x4096x128 .bf16) (t : Fin 34) : sProp 𝕄 :=
  oV.view.loc (c : Thread nD τ) ↦[blk 17 t]{fullShare} g

/-- What transfer t holds: its source — the new rows, or its own share of the zero buffer — and its elements of the result
    it writes, at contents g0 or g1. Lent at the results' contents before the call, given back at those after. -/
def held (c : Dev nD) (x0 x1 : Vec F S8x16x4096 .f32) (g0 g1 : Vec F S8x32x4096x128 .bf16) (t : Fin 34) : sProp 𝕄 :=
  iprop((if t.val = 0 then rowsK c x0 else emp) ∗ (if t.val = 17 then rowsV c x1 else emp)
    ∗ (if t.val = 0 ∨ t.val = 17 then emp else zeros c (shareTok fullShare 34 t))
    ∗ partK c g0 t ∗ partV c g1 t)

variable (c : Dev nD) (x0 x1 : Vec F S8x16x4096 .f32) (g0 g1 : Vec F S8x32x4096x128 .bf16)

instance held_storable (t : Fin 34) : Storable (upEmb : UEmb _ 𝕄) (held c x0 x1 g0 g1 t) := by
  unfold held
  split <;> split <;> split <;> infer_instance

theorem emp_sep_eq (P : sProp 𝕄) : iprop(emp ∗ P) = P := equiv_iff.mp emp_sep
theorem sep_emp_eq (P : sProp 𝕄) : iprop(P ∗ emp) = P := equiv_iff.mp sep_emp

theorem held_headK (t : Fin 34) (ht : t.val = 0) : held c x0 x1 g0 g1 t = iprop(rowsK c x0 ∗ partK c g0 t) := by
  unfold held
  rw [if_pos ht, if_neg (by omega), if_pos (Or.inl ht), partV, blk_empty 17 t (by omega), pointsTo_empty]
  rw [emp_sep_eq, emp_sep_eq, sep_emp_eq]

theorem held_headV (t : Fin 34) (ht : t.val = 17) : held c x0 x1 g0 g1 t = iprop(rowsV c x1 ∗ partV c g1 t) := by
  unfold held
  rw [if_neg (by omega), if_pos ht, if_pos (Or.inr ht), partK, blk_empty 0 t (by omega), pointsTo_empty]
  rw [emp_sep_eq, emp_sep_eq, emp_sep_eq]

theorem held_zeroK (t : Fin 34) (h0 : t.val ≠ 0) (h : t.val < 17) :
    held c x0 x1 g0 g1 t = iprop(zeros c (shareTok fullShare 34 t) ∗ partK c g0 t) := by
  unfold held
  rw [if_neg h0, if_neg (by omega), if_neg (by omega), partV, blk_empty 17 t (by omega), pointsTo_empty]
  rw [emp_sep_eq, emp_sep_eq, sep_emp_eq]

theorem held_zeroV (t : Fin 34) (h : 17 < t.val) :
    held c x0 x1 g0 g1 t = iprop(zeros c (shareTok fullShare 34 t) ∗ partV c g1 t) := by
  unfold held
  rw [if_neg (by omega), if_neg (by omega), if_neg (by omega), partK, blk_empty 0 t (by omega), pointsTo_empty]
  rw [emp_sep_eq, emp_sep_eq, emp_sep_eq]

/-- Before transfer j is issued: what the transfers from j on are to take, and the record of those issued. -/
def issued (j : ℕ) : sProp 𝕄 :=
  iprop(bigSep (pending j) (held c x0 x1 g0 g1)
    ∗ MixedBatch (countersEmb (U := Pipeline.UD sig nD τ)) (c : Thread nD τ) cell () amt (held c x0 x1 (updated x0) (updated x1)) j 0)

/-- Before transfer j is waited for: all are issued, and those before j are accounted for. -/
def waited (j : ℕ) : sProp 𝕄 :=
  iprop(MixedBatch (countersEmb (U := Pipeline.UD sig nD τ)) (c : Thread nD τ) cell () amt (held c x0 x1 (updated x0) (updated x1)) 34 (sumTo amt j)
    ∗ ∃ W, owes (c : Thread nD τ) 0 W)

/-- Elements written through a view with a payload that agrees with G stand at G. -/
theorem written {sp : Space} {s : Shape} {e : EltTy} (v : View sig .tc sp s e) (f : v.ty.Contents (Elt F)) (w : s.Idx → Elt F e)
    (G : v.ty.Contents (Elt F)) (hw : ∀ y, _root_.cast (congrArg (Elt F) v.elt_eq.symm) (w y) = G (v.emb y)) :
    ∀ i ∈ v.set, v.write (Elt F) f w Finset.univ i = G i := by
  intro i hi
  obtain ⟨y, -, rfl⟩ := Finset.mem_map.mp hi
  rw [v.write_emb_of_mem _ _ (Finset.mem_univ y), hw]

/-- One issue: from transfer j's holdings to the record with j + 1 issued. -/
theorem issue_step {sp sp' : Space} {s : Shape} {e : EltTy} (j : ℕ) (hj : j < 34)
    {src : Memref sig .tc sp s e} {dst : Memref sig .tc sp' s e} {hsrc : src.view.WordExact} {hdst : dst.view.WordExact}
    {hsem : DmaTarget.Typed (nD := nD) sp cell (DmaTarget.here (p := (c : Thread nD τ).2) dst)}
    {k : PUnit → Prog (TpuEff nD τ sig (Elt F) Λ₀ .tc) PUnit} {Q : PUnit → sProp 𝕄} {q : PosShare TreeShare}
    {fs : Buf (Elt F) (src.view.loc (c : Thread nD τ))} {Sd : Finset (Idx (dst.view.loc (c : Thread nD τ)))}
    {fd : Buf (Elt F) (dst.view.loc (c : Thread nD τ))}
    (hL : held c x0 x1 g0 g1 ⟨j, hj⟩
      = iprop((src.view.loc (c : Thread nD τ) ↦[src.view.set]{q} fs) ∗ (dst.view.loc (c : Thread nD τ) ↦[Sd]{fullShare} fd)))
    {G : Buf (Elt F) (dst.view.loc (c : Thread nD τ))}
    (hR : held c x0 x1 (updated x0) (updated x1) ⟨j, hj⟩
      = iprop((src.view.loc (c : Thread nD τ) ↦[src.view.set]{q} fs) ∗ (dst.view.loc (c : Thread nD τ) ↦[Sd]{fullShare} G)))
    (hSd : dst.view.set = Sd) (hA : dst.view.amount cell = amt ⟨j, hj⟩)
    (hw : ∀ y, _root_.cast (congrArg (Elt F) dst.view.elt_eq.symm) (src.view.read (Elt F) fs y) = G (dst.view.emb y)) :
    issued c x0 x1 g0 g1 j
      ⊢ iprop((issued c x0 x1 g0 g1 (j + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.enqueueDma src (.here dst) cell hsrc hdst hsem) k) Q) := by
  have hD : iprop((dst.view.loc (c : Thread nD τ) ↦[Sd]{fullShare} (dst.view.write (Elt F) fd
          ((ReadAs.same : ReadAs (Elt F) s e s e).apply (src.view.read (Elt F) fs)) Finset.univ))
        ∗ (src.view.loc (c : Thread nD τ) ↦[src.view.set]{q} fs)) ⊢ held c x0 x1 (updated x0) (updated x1) ⟨j, hj⟩ := by
    have hc : ∀ i ∈ Sd, dst.view.write (Elt F) fd ((ReadAs.same : ReadAs (Elt F) s e s e).apply (src.view.read (Elt F) fs))
        Finset.univ i = G i := fun i hi => written dst.view fd (src.view.read (Elt F) fs) G hw i (hSd ▸ hi)
    rw [hR, pointsTo_congr hc]
    iintro ⟨Hd, Hs⟩
    isplitl [Hs]; · iexact Hs
    iexact Hd
  unfold issued
  rw [bigSep_pending_step _ j hj, hL]
  iintro ⟨⟨⟨Hs, Hd⟩, Hr⟩, HB⟩ Hk
  iapply (wp_dmaMixedBatch (countersEmb (U := Pipeline.UD sig nD τ)) Variants.none (c : Thread nD τ) none () amt
    (src := src) (dst := dst) (via := .same) (sm := cell) (fs := fs) (fd := fd) (Sd := Sd) (q := q)
    (D := held c x0 x1 (updated x0) (updated x1)) (j := j) (u := 0) hSd.subset hj hA (Nat.zero_le _) hD) $$ [Hs Hd HB]
  · isplitl [Hs]; · iexact Hs
    isplitl [Hd]; · iexact Hd
    iexact HB
  iintro HB
  iapply Hk
  isplitl [Hr]; · iexact Hr
  iexact HB

/-- The issue of the new rows of the first result. -/
theorem issue_headK {inb : ∀ d : Fin 4, (![0, 0, 0, 0] : Fin 4 → ℕ) d + S8x32x16x128.size d ≤ S8x32x4096x128.size d}
    {hstr : ∀ d : Fin 4, (Rect.unit (s := S8x32x4096x128) ![0, 0, 0, 0] S8x32x16x128.size inb).stride d = 1}
    {hsrc : kM.view.WordExact} {hdst} {hsem}
    {k : PUnit → Prog (TpuEff nD τ sig (Elt F) Λ₀ .tc) PUnit} {Q : PUnit → sProp 𝕄} :
    issued c x0 x1 g0 g1 0
      ⊢ iprop((issued c x0 x1 g0 g1 (0 + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.enqueueDma kM (.here (oK.slice (Rect.unit (s := S8x32x4096x128) ![0, 0, 0, 0] S8x32x16x128.size inb) hstr))
                cell hsrc hdst hsem) k) Q) := by
  have hset : (oK.slice (Rect.unit (s := S8x32x4096x128) ![0, 0, 0, 0] S8x32x16x128.size inb) hstr).view.set
      = blk 0 ⟨0, by omega⟩ :=
    (View.set_slice_whole main_v2_0 (Rect.unit (s := S8x32x4096x128) ![0, 0, 0, 0] S8x32x16x128.size inb)).trans
      (head_set 0 ⟨0, by omega⟩ rfl inb)
  refine issue_step c x0 x1 g0 g1 0 (by omega) (src := kM)
    (dst := oK.slice (Rect.unit (s := S8x32x4096x128) ![0, 0, 0, 0] S8x32x16x128.size inb) hstr)
    (fs := heads x0) (fd := g0) (Sd := blk 0 ⟨0, by omega⟩)
    (held_headK c x0 x1 g0 g1 ⟨0, by omega⟩ rfl) (held_headK c x0 x1 (updated x0) (updated x1) ⟨0, by omega⟩ rfl)
    hset ?_ (fun y => updated_head x0 inb y)
  unfold amt; rw [if_pos (by decide)]

/-- The issue of the zeros of batch row b, heads h to h + 15, of the first result. -/
theorem issue_zeroK (j b h : ℕ) (hj : j < 17) (hb : j = 1 + 2 * b + h / 16) (hh : h % 16 = 0) (hu : h < 32)
    {inb : ∀ d : Fin 4, (![b, h, 16, 0] : Fin 4 → ℕ) d + S1x16x4080x128.size d ≤ S8x32x4096x128.size d}
    {hstr : ∀ d : Fin 4, (Rect.unit (s := S8x32x4096x128) ![b, h, 16, 0] S1x16x4080x128.size inb).stride d = 1}
    {hsrc : zM.view.WordExact} {hdst} {hsem}
    {k : PUnit → Prog (TpuEff nD τ sig (Elt F) Λ₀ .tc) PUnit} {Q : PUnit → sProp 𝕄} :
    issued c x0 x1 g0 g1 j
      ⊢ iprop((issued c x0 x1 g0 g1 (j + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.enqueueDma zM (.here (oK.slice (Rect.unit (s := S8x32x4096x128) ![b, h, 16, 0] S1x16x4080x128.size inb) hstr))
                cell hsrc hdst hsem) k) Q) := by
  have hset : (oK.slice (Rect.unit (s := S8x32x4096x128) ![b, h, 16, 0] S1x16x4080x128.size inb) hstr).view.set
      = blk 0 ⟨j, by omega⟩ :=
    (View.set_slice_whole main_v2_0 (Rect.unit (s := S8x32x4096x128) ![b, h, 16, 0] S1x16x4080x128.size inb)).trans
      (zero_set 0 ⟨j, by omega⟩ b h (h / 16) (by omega) (by omega) (by simpa using hb) inb)
  refine issue_step c x0 x1 g0 g1 j (by omega) (src := zM)
    (dst := oK.slice (Rect.unit (s := S8x32x4096x128) ![b, h, 16, 0] S1x16x4080x128.size inb) hstr)
    (fs := fun _ => zeroVal) (fd := g0) (Sd := blk 0 ⟨j, by omega⟩)
    (held_zeroK c x0 x1 g0 g1 ⟨j, by omega⟩ (by simp only; omega) hj) (held_zeroK c x0 x1 (updated x0) (updated x1) ⟨j, by omega⟩ (by simp only; omega) hj)
    hset ?_ (fun y => updated_zero x0 b h inb y)
  unfold amt; rw [if_neg (by simp only; omega)]

/-- The issue of the new rows of the second result. -/
theorem issue_headV {inb : ∀ d : Fin 4, (![0, 0, 0, 0] : Fin 4 → ℕ) d + S8x32x16x128.size d ≤ S8x32x4096x128.size d}
    {hstr : ∀ d : Fin 4, (Rect.unit (s := S8x32x4096x128) ![0, 0, 0, 0] S8x32x16x128.size inb).stride d = 1}
    {hsrc : vM.view.WordExact} {hdst} {hsem}
    {k : PUnit → Prog (TpuEff nD τ sig (Elt F) Λ₀ .tc) PUnit} {Q : PUnit → sProp 𝕄} :
    issued c x0 x1 g0 g1 17
      ⊢ iprop((issued c x0 x1 g0 g1 (17 + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.enqueueDma vM (.here (oV.slice (Rect.unit (s := S8x32x4096x128) ![0, 0, 0, 0] S8x32x16x128.size inb) hstr))
                cell hsrc hdst hsem) k) Q) := by
  have hset : (oV.slice (Rect.unit (s := S8x32x4096x128) ![0, 0, 0, 0] S8x32x16x128.size inb) hstr).view.set
      = blk 17 ⟨17, by omega⟩ :=
    (View.set_slice_whole main_v2_1 (Rect.unit (s := S8x32x4096x128) ![0, 0, 0, 0] S8x32x16x128.size inb)).trans
      (head_set 17 ⟨17, by omega⟩ rfl inb)
  refine issue_step c x0 x1 g0 g1 17 (by omega) (src := vM)
    (dst := oV.slice (Rect.unit (s := S8x32x4096x128) ![0, 0, 0, 0] S8x32x16x128.size inb) hstr)
    (fs := heads x1) (fd := g1) (Sd := blk 17 ⟨17, by omega⟩)
    (held_headV c x0 x1 g0 g1 ⟨17, by omega⟩ rfl) (held_headV c x0 x1 (updated x0) (updated x1) ⟨17, by omega⟩ rfl)
    hset ?_ (fun y => updated_head x1 inb y)
  unfold amt; rw [if_pos (by decide)]

/-- The issue of the zeros of batch row b, heads h to h + 15, of the second result. -/
theorem issue_zeroV (j b h : ℕ) (hj : j < 34) (hb : j = 17 + (1 + 2 * b + h / 16)) (hh : h % 16 = 0) (hu : h < 32)
    {inb : ∀ d : Fin 4, (![b, h, 16, 0] : Fin 4 → ℕ) d + S1x16x4080x128.size d ≤ S8x32x4096x128.size d}
    {hstr : ∀ d : Fin 4, (Rect.unit (s := S8x32x4096x128) ![b, h, 16, 0] S1x16x4080x128.size inb).stride d = 1}
    {hsrc : zM.view.WordExact} {hdst} {hsem}
    {k : PUnit → Prog (TpuEff nD τ sig (Elt F) Λ₀ .tc) PUnit} {Q : PUnit → sProp 𝕄} :
    issued c x0 x1 g0 g1 j
      ⊢ iprop((issued c x0 x1 g0 g1 (j + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.enqueueDma zM (.here (oV.slice (Rect.unit (s := S8x32x4096x128) ![b, h, 16, 0] S1x16x4080x128.size inb) hstr))
                cell hsrc hdst hsem) k) Q) := by
  have hset : (oV.slice (Rect.unit (s := S8x32x4096x128) ![b, h, 16, 0] S1x16x4080x128.size inb) hstr).view.set
      = blk 17 ⟨j, by omega⟩ :=
    (View.set_slice_whole main_v2_1 (Rect.unit (s := S8x32x4096x128) ![b, h, 16, 0] S1x16x4080x128.size inb)).trans
      (zero_set 17 ⟨j, by omega⟩ b h (h / 16) (by omega) (by omega) hb inb)
  refine issue_step c x0 x1 g0 g1 j (by omega) (src := zM)
    (dst := oV.slice (Rect.unit (s := S8x32x4096x128) ![b, h, 16, 0] S1x16x4080x128.size inb) hstr)
    (fs := fun _ => zeroVal) (fd := g1) (Sd := blk 17 ⟨j, by omega⟩)
    (held_zeroV c x0 x1 g0 g1 ⟨j, by omega⟩ (by simp only; omega)) (held_zeroV c x0 x1 (updated x0) (updated x1) ⟨j, by omega⟩ (by simp only; omega))
    hset ?_ (fun y => updated_zero x1 b h inb y)
  unfold amt; rw [if_neg (by simp only; omega)]

/-- One wait: the next transfer accounted for. -/
theorem wait_step {sp sp' : Space} {s s' : Shape} {e e' : EltTy} (j : ℕ)
    {src : Memref sig .tc sp s' e'} {dst : Memref sig .tc sp' s e} {hsrc : src.view.WordExact} {hdst : dst.view.WordExact}
    {k : PUnit → Prog (TpuEff nD τ sig (Elt F) Λ₀ .tc) PUnit} {Q : PUnit → sProp 𝕄}
    (h : ∃ hj : j < 34, dst.view.dmaCredit = amt ⟨j, hj⟩) :
    waited c x0 x1 j
      ⊢ iprop((waited c x0 x1 (j + 1) -∗ wp frame (wpE (defs₀ (F := F)) Variants.none (c : Thread nD τ) none) Set.univ (k ⟨⟩) Q)
          -∗ wp frame (wpE (defs₀ (F := F)) Variants.none (c : Thread nD τ) none) Set.univ
              (.op (TpuEff.waitDma2 (SemArray.sem cc0_scratch3) src dst hsrc hdst) k) Q) := by
  obtain ⟨hj, hJ⟩ := h
  have hle : sumTo amt j + amt ⟨j, hj⟩ ≤ sumTo amt 34 := by
    rw [← sumTo_succ amt hj, sumTo_total, ← sumTo_add_pending amt (j + 1) (by omega)]
    exact Nat.le_add_right _ _
  unfold waited
  iintro ⟨HB, ⟨%W, HW⟩⟩ Hk
  iapply (wp_waitMixedBatch (countersEmb (U := Pipeline.UD sig nD τ)) Variants.none (c : Thread nD τ) none () hJ
    (D := held c x0 x1 (updated x0) (updated x1)) (u := sumTo amt j) hle) $$ [HB HW]
  · isplitl [HB] <;> iassumption
  iintro ⟨HB, HW⟩
  iapply Hk
  rw [sumTo_succ amt hj]
  isplitl [HB]; · iexact HB
  iexists _
  iexact HW

/-- A family that is P at one transfer and nothing elsewhere is P. -/
theorem bigSep_only (n : ℕ) (hn : n < 34) (P : sProp 𝕄) :
    (bigSep Finset.univ fun t : Fin 34 => if t.val = n then P else iprop(emp)) = P := by
  have h : (Finset.univ.filter fun t : Fin 34 => t.val = n) = {⟨n, hn⟩} := by
    ext t; simp [Fin.ext_iff]
  exact (bigSep_filter Finset.univ (fun t : Fin 34 => t.val = n) fun _ => P).symm.trans (by rw [h, bigSep_singleton])

/-- A family of pairs is the pair of the families. -/
theorem bigSep_pairs (Φ Ψ : Fin 34 → sProp 𝕄) :
    (bigSep Finset.univ fun t => iprop(Φ t ∗ Ψ t)) = iprop(bigSep Finset.univ Φ ∗ bigSep Finset.univ Ψ) :=
  bigSep_sep Finset.univ Φ Ψ

/-- The shares of the zero buffer lent to the zero transfers. -/
def lent (c : Dev nD) : sProp 𝕄 := bigSep Finset.univ fun t : Fin 34 =>
  if t.val = 0 ∨ t.val = 17 then iprop(emp) else zeros (F := F) c (shareTok fullShare 34 t)
/-- The shares of the zero buffer kept meanwhile. -/
def kept (c : Dev nD) : sProp 𝕄 := iprop(zeros (F := F) c (shareDrop fullShare 34) ∗ bigSep Finset.univ fun t : Fin 34 =>
  if t.val = 0 ∨ t.val = 17 then zeros (F := F) c (shareTok fullShare 34 t) else iprop(emp))

theorem toks_eq : iprop((bigSep Finset.univ fun t : Fin 34 =>
      if t.val = 0 ∨ t.val = 17 then zeros (F := F) c (shareTok fullShare 34 t) else iprop(emp)) ∗ lent c)
    = bigSep Finset.univ fun t : Fin 34 => zeros (F := F) c (shareTok fullShare 34 t) := by
  refine (bigSep_sep Finset.univ _ _).symm.trans (bigSep_congr fun t _ => ?_)
  split
  · exact sep_emp_eq _
  · exact emp_sep_eq _

theorem zeros_split : zeros (F := F) c fullShare ⊢ iprop(kept c ∗ lent c) := by
  iintro H
  ihave H := (pointsTo_toks_split fullShare 34) $$ H
  icases H with ⟨H, Ht⟩
  ihave Ht := (Entails.of_eq (toks_eq (F := F) c).symm) $$ Ht
  icases Ht with ⟨Ha, Hb⟩
  unfold kept
  isplitr [Hb]
  · isplitl [H]; · iexact H
    iexact Ha
  iexact Hb

theorem zeros_join : iprop(kept c ∗ lent c) ⊢ zeros (F := F) c fullShare := by
  unfold kept
  iintro ⟨⟨H, Ha⟩, Hb⟩
  iapply (pointsTo_toks_join fullShare 34)
  isplitl [H]; · iexact H
  iapply (Entails.of_eq (toks_eq (F := F) c))
  isplitl [Ha]; · iexact Ha
  iexact Hb

/-- What the transfers hold together: the new rows, the lent shares of the zero buffer, and both results whole. -/
theorem all_held : bigSep Finset.univ (held c x0 x1 g0 g1)
    = iprop(rowsK c x0 ∗ rowsV c x1 ∗ lent c ∗ (oK.view.loc (c : Thread nD τ) ↦{fullShare} g0)
      ∗ (oV.view.loc (c : Thread nD τ) ↦{fullShare} g1)) := by
  have h0 : (oK.view.loc (c : Thread nD τ) ↦{fullShare} g0 : sProp 𝕄) = bigSep Finset.univ (partK c g0) :=
    Ring.pointsTo_blocks (ℓ := oK.view.loc (c : Thread nD τ)) (blk 0) (blk_disjoint 0)
      (Finset.eq_univ_iff_forall.mpr fun i => Finset.mem_biUnion.mpr (blk_cover 0 (by omega) i)) _
  have h1 : (oV.view.loc (c : Thread nD τ) ↦{fullShare} g1 : sProp 𝕄) = bigSep Finset.univ (partV c g1) :=
    Ring.pointsTo_blocks (ℓ := oV.view.loc (c : Thread nD τ)) (blk 17) (blk_disjoint 17)
      (Finset.eq_univ_iff_forall.mpr fun i => Finset.mem_biUnion.mpr (blk_cover 17 (by omega) i)) _
  rw [h0, h1]
  unfold held lent
  rw [bigSep_pairs, bigSep_pairs, bigSep_pairs, bigSep_pairs]
  exact congrArg₂ _ (bigSep_only 0 (by omega) _) (congrArg₂ _ (bigSep_only 17 (by omega) _) rfl)

/-- The start: the sources and results at hand and the cell at zero, the transfers' record opens. -/
theorem start : iprop(rowsK c x0 ∗ rowsV c x1 ∗ zeros c fullShare ∗ (oK.view.loc (c : Thread nD τ) ↦{fullShare} g0)
      ∗ (oV.view.loc (c : Thread nD τ) ↦{fullShare} g1) ∗ semVal ((c : Thread nD τ), cell) 0)
    ⊢ |={Set.univ}=> iprop(issued c x0 x1 g0 g1 0 ∗ kept c) := by
  iintro ⟨HK, HV, Hz, Ho, Hv, Hs⟩
  ihave Hz := (zeros_split c) $$ Hz
  icases Hz with ⟨Hkept, Hlent⟩
  imod (mixedBatch_alloc' (Lvl := ℕ) (countersEmb (U := Pipeline.UD sig nD τ)) (c : Thread nD τ) () amt
    (held c x0 x1 (updated x0) (updated x1)) (sm := cell) (E := Set.univ)) $$ Hs with HB
  imodintro
  isplitr [Hkept]
  · unfold issued
    rw [← bigSep_pending_zero, all_held]
    isplitr [HB]
    · isplitl [HK]; · iexact HK
      isplitl [HV]; · iexact HV
      isplitl [Hlent]; · iexact Hlent
      isplitl [Ho]; · iexact Ho
      iexact Hv
    iexact HB
  iexact Hkept

/-- All issued, the waits begin. -/
theorem issued_waited : iprop(issued c x0 x1 g0 g1 34 ∗ ∃ W, owes (c : Thread nD τ) 0 W) ⊢ waited c x0 x1 0 := by
  unfold issued waited
  iintro ⟨⟨-, HB⟩, HW⟩
  isplitl [HB]; · iexact HB
  iexact HW

/-- The end: all waited for, everything is back, the results updated, the cell at zero. -/
theorem finish : iprop(waited c x0 x1 34 ∗ kept c)
    ⊢ |={Set.univ}=> iprop(rowsK c x0 ∗ rowsV c x1 ∗ zeros c fullShare
      ∗ (oK.view.loc (c : Thread nD τ) ↦{fullShare} updated x0)
      ∗ (oV.view.loc (c : Thread nD τ) ↦{fullShare} updated x1) ∗ semVal ((c : Thread nD τ), cell) 0
      ∗ ∃ W, owes (c : Thread nD τ) 0 W) := by
  unfold waited
  iintro ⟨⟨HB, HW⟩, Hkept⟩
  imod (mixedBatch_collect' (Lvl := ℕ) (countersEmb (U := Pipeline.UD sig nD τ)) (c : Thread nD τ) (sm := cell) (ι := ()) amt_pos) $$ HB
    with ⟨HD, Hs⟩
  imodintro
  ihave HD := (Entails.of_eq (all_held c x0 x1 (updated x0) (updated x1))) $$ HD
  icases HD with ⟨HK, HV, Hlent, Ho, Hv⟩
  isplitl [HK]; · iexact HK
  isplitl [HV]; · iexact HV
  isplitl [Hkept Hlent]
  · iapply (zeros_join c)
    isplitl [Hkept]; · iexact Hkept
    iexact Hlent
  isplitl [Ho]; · iexact Ho
  isplitl [Hv]; · iexact Hv
  isplitl [Hs]; · iexact Hs
  iexact HW

end Cert.Proof.Flights

end
-- ==== Proof.Body.lean ====
/- THE KERNEL'S BODY. Its stores fill the three on-chip buffers, its transfers copy them over the two results, and its waits
   account for the transfers: started with the blocks of the two inputs at hand, it ends with both results updated. -/
module

public import proofs.«01_k».proof.Proof.Gen.Kernel.Skeleton
public import proofs.«01_k».proof.Proof.Gen.Kernel.Points
public import proofs.«01_k».proof.Proof.Gen.Kernel.Launch
public import proofs.«01_k».proof.Proof.Flights

@[expose] public section

set_option maxRecDepth 16384

noncomputable section

namespace Cert.Proof.Body

open Cert.Kernel Cert.Kernel.Gen Cert.Proof.Block Cert.Proof.Regions Cert.Proof.Flights
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The zero buffer after stores of zeros that cover it. -/
theorem zM_filled (f : zM.view.ty.Contents (Elt F)) (L : List (View.Piece (Elt F) S1x16x4080x128 .bf16))
    (hG : ∀ p ∈ L, ∀ y, p.2 y = zeroVal (F := F)) (hc : ∀ y, ∃ p ∈ L, y ∈ p.1.set) :
    zM.view.writes (Elt F) f L = fun _ => zeroVal (F := F) :=
  funext fun y => View.read_writes_apply_of_pieces zM.view f (fun _ => zeroVal (F := F)) L hG y (hc y)

/-- The buffer of the first result's new rows after stores of them that cover it. -/
theorem kM_filled (x : Vec F S8x16x4096 .f32) (f : kM.view.ty.Contents (Elt F)) (L : List (View.Piece (Elt F) S8x32x16x128 .bf16))
    (hG : ∀ p ∈ L, ∀ y, p.2 y = heads x (p.1.emb y)) (hc : ∀ y, ∃ p ∈ L, y ∈ p.1.set) :
    kM.view.writes (Elt F) f L = heads x :=
  funext fun y => View.read_writes_apply_of_pieces kM.view f (heads x) L hG y (hc y)

/-- The buffer of the second result's new rows after stores of them that cover it. -/
theorem vM_filled (x : Vec F S8x16x4096 .f32) (f : vM.view.ty.Contents (Elt F)) (L : List (View.Piece (Elt F) S8x32x16x128 .bf16))
    (hG : ∀ p ∈ L, ∀ y, p.2 y = heads x (p.1.emb y)) (hc : ∀ y, ∃ p ∈ L, y ∈ p.1.set) :
    vM.view.writes (Elt F) f L = heads x :=
  funext fun y => View.read_writes_apply_of_pieces vM.view f (heads x) L hG y (hc y)

/-- One store of one head's new rows: the payload is the input's columns for that head. -/
theorem rows_piece (M : Memref sig .tc .vmem S8x16x4096 .f32) (f : M.view.ty.Contents (Elt F)) (h o : ℕ)
    {hl : ∀ a, (![0, 0, o] : Fin 3 → ℕ) a + S8x16x128.size a ≤ S8x16x4096.size a}
    {hs : ∀ a, (![0, h, 0, 0] : Fin 4 → ℕ) a + S8x1x16x128.size a ≤ S8x32x16x128.size a}
    (pay : S8x1x16x128.Idx → F .bf16)
    (hp : pay = headRows (View.readAt (Elt F) M.view (Rect.unit (s := S8x16x4096) ![0, 0, o] S8x16x128.size hl).toLoadRect f))
    (ho : o = 128 * h) (y : S8x1x16x128.Idx) :
    pay y = heads (View.read (Elt F) M.view f) ((Rect.unit (s := S8x32x16x128) ![0, h, 0, 0] S8x1x16x128.size hs).emb y) := by
  rw [hp]
  exact headRows_piece (View.read (Elt F) M.view f) h o ho hl hs y

/-- A returned value passes to what follows. -/
theorem ret_bind' {E : Type → Type} {α β : Type} (a : α) (k : α → Prog E β) : (Prog.ret a).bind k = k a := rfl
/-- and so does one given back by `pure`. -/
theorem pure_bind' {E : Type → Type} {α β : Type} (a : α) (k : α → Prog E β) : (Pure.pure a : Prog E α).bind k = k a := rfl

/-- The body's triple: from the two input blocks and the two results, to the same inputs and both results updated. -/
theorem body (c : Dev nD) (arg0 : Memref sig .tc .vmem S8x16x4096 .f32) (harg0 : arg0.IsWhole)
    (arg1 : Memref sig .tc .vmem S8x16x4096 .f32) (harg1 : arg1.IsWhole)
    (x0 x1 : Vec F S8x16x4096 .f32) (g0 g1 : Vec F S8x32x4096x128 .bf16) (K : PUnit → sProp 𝕄) :
    iprop(owns (c : Thread nD τ) arg0 fullShare x0
      ∗ owns (c : Thread nD τ) arg1 fullShare x1
      ∗ (∃ d, owns (c : Thread nD τ) zM fullShare d)
      ∗ (∃ d, owns (c : Thread nD τ) kM fullShare d)
      ∗ (∃ d, owns (c : Thread nD τ) vM fullShare d)
      ∗ (oK.view.loc (c : Thread nD τ) ↦{fullShare} g0)
      ∗ (oV.view.loc (c : Thread nD τ) ↦{fullShare} g1)
      ∗ semVal ((c : Thread nD τ), cell) 0
      ∗ (∃ W, owes (c : Thread nD τ) 0 W)
      ∗ (owns (c : Thread nD τ) arg0 fullShare x0
        ∗ owns (c : Thread nD τ) arg1 fullShare x1
        ∗ (∃ d, owns (c : Thread nD τ) zM fullShare d)
        ∗ (∃ d, owns (c : Thread nD τ) kM fullShare d)
        ∗ (∃ d, owns (c : Thread nD τ) vM fullShare d)
        ∗ (oK.view.loc (c : Thread nD τ) ↦{fullShare} updated x0)
        ∗ (oV.view.loc (c : Thread nD τ) ↦{fullShare} updated x1)
        ∗ semVal ((c : Thread nD τ), cell) 0
        ∗ (∃ W, owes (c : Thread nD τ) 0 W) -∗ K ⟨⟩))
      ⊢ wp frame (wpE (defs₀ (F := F)) Variants.none c none) Set.univ
          (cc0__update_body arg0 harg0 arg1 harg1 oK (Memref.isWhole_whole _) oV (Memref.isWhole_whole _)
            zM (Memref.isWhole_whole _) kM (Memref.isWhole_whole _) vM (Memref.isWhole_whole _) cc0_scratch3) K := by
  simp only [cc0__update_body_eq_skeleton]; unfold cc0__update_body_skel
  unfold owns
  iintro ⟨⟨%f0, %h0, H0⟩, ⟨%f1, %h1, H1⟩, ⟨%dz, %fz, -, Hz⟩, ⟨%dk, %fk, -, Hk⟩, ⟨%dv, %fv, -, Hv⟩, Ho, Hov, Hs, HW, HK⟩
  sl_exec
  rw [show zM.view.writes (Elt F) fz _ = (fun _ => zeroVal) from ?hz,
    show kM.view.writes (Elt F) fk _ = heads x0 from ?hk, show vM.view.writes (Elt F) fv _ = heads x1 from ?hv]
  case hz =>
    refine zM_filled _ _ ?_ ?_
    · refine List.forall_mem_cons.2 ⟨fun y => zero_piece (F := F) y, ?_⟩
      exact fun _ h => absurd h List.not_mem_nil
    · exact View.cover_of_tiledL (s := S1x16x4080x128) _ S1x16x4080x128.size (by sl_kernel_rfl)
  case hk =>
    subst h0
    sl_unfold_run_names
    refine kM_filled _ _ _ ?_ ?_
    · repeat refine List.forall_mem_cons.2 ⟨rows_piece arg0 f0 _ _ (hs := by decide) _ rfl (by rfl), ?_⟩
      exact fun _ h => absurd h List.not_mem_nil
    · exact View.cover_of_tiledL (s := S8x32x16x128) _ S8x1x16x128.size (by sl_kernel_rfl)
  case hv =>
    subst h1
    sl_unfold_run_names
    refine vM_filled _ _ _ ?_ ?_
    · repeat refine List.forall_mem_cons.2 ⟨rows_piece arg1 f1 _ _ (hs := by decide) _ rfl (by rfl), ?_⟩
      exact fun _ h => absurd h List.not_mem_nil
    · exact View.cover_of_tiledL (s := S8x32x16x128) _ S8x1x16x128.size (by sl_kernel_rfl)
  imod (start c x0 x1 g0 g1) $$ [Hk Hv Hz Ho Hov Hs] with ⟨HI, Hkept⟩
  · isplitl [Hk]; · iexact Hk
    isplitl [Hv]; · iexact Hv
    isplitl [Hz]; · iexact Hz
    isplitl [Ho]; · iexact Ho
    isplitl [Hov]; · iexact Hov
    iexact Hs
  iapply (issue_headK c x0 x1 g0 g1) $$ HI
  iintro HI
  simp only [ret_bind']
  iterate 8
    iapply (issue_zeroK c x0 x1 g0 g1 _ _ _ ?_ ?_ ?_ ?_) $$ HI
    iterate 4 · decide
    iintro HI
    simp only [ret_bind']
  sl_step
  simp only [k0_part17_eq_skeleton]; unfold k0_part17_skel
  iterate 8
    iapply (issue_zeroK c x0 x1 g0 g1 _ _ _ ?_ ?_ ?_ ?_) $$ HI
    iterate 4 · decide
    iintro HI
    simp only [ret_bind']
  iapply (issue_headV c x0 x1 g0 g1) $$ HI
  iintro HI
  simp only [ret_bind']
  iapply (issue_zeroV c x0 x1 g0 g1 _ _ _ ?_ ?_ ?_ ?_) $$ HI
  iterate 4 · decide
  iintro HI
  simp only [ret_bind']
  simp only [pure_bind']
  simp only [k0_part18_eq_skeleton]; unfold k0_part18_skel
  iterate 10
    iapply (issue_zeroV c x0 x1 g0 g1 _ _ _ ?_ ?_ ?_ ?_) $$ HI
    iterate 4 · decide
    iintro HI
    simp only [ret_bind']
  simp only [pure_bind']
  simp only [k0_part19_eq_skeleton]; unfold k0_part19_skel
  iterate 5
    iapply (issue_zeroV c x0 x1 g0 g1 _ _ _ ?_ ?_ ?_ ?_) $$ HI
    iterate 4 · decide
    iintro HI
    simp only [ret_bind']
  ihave HI := (issued_waited c x0 x1 g0 g1) $$ [HI HW]
  · isplitl [HI]; · iexact HI
    iexact HW
  iterate 5
    iapply (wait_step c x0 x1 _ ?_) $$ HI
    · exact ⟨by decide, rfl⟩
    iintro HI
    simp only [ret_bind']
  simp only [pure_bind']
  simp only [k0_part20_eq_skeleton]; unfold k0_part20_skel
  iterate 10
    iapply (wait_step c x0 x1 _ ?_) $$ HI
    · exact ⟨by decide, rfl⟩
    iintro HI
    simp only [ret_bind']
  simp only [pure_bind']
  simp only [k0_part21_eq_skeleton]; unfold k0_part21_skel
  iterate 10
    iapply (wait_step c x0 x1 _ ?_) $$ HI
    · exact ⟨by decide, rfl⟩
    iintro HI
    simp only [ret_bind']
  simp only [pure_bind']
  iterate 6
    iapply (wait_step c x0 x1 _ ?_) $$ HI
    · exact ⟨by decide, rfl⟩
    iintro HI
    simp only [ret_bind']
  sl_step
  iterate 3
    iapply (wait_step c x0 x1 _ ?_) $$ HI
    · exact ⟨by decide, rfl⟩
    iintro HI
    simp only [ret_bind']
  imod (finish c x0 x1) $$ [HI Hkept] with ⟨Hk, Hv, Hz, Ho, Hov, Hs, HW⟩
  · isplitl [HI]; · iexact HI
    iexact Hkept
  sl_step
  iapply HK
  isplitl [H0]
  · iexists f0; isplitr; · ipureintro; exact h0
    iexact H0
  isplitl [H1]
  · iexists f1; isplitr; · ipureintro; exact h1
    iexact H1
  isplitl [Hz]
  · iexists _, (fun _ => zeroVal (F := F)); isplitr; · ipureintro; rfl
    iexact Hz
  isplitl [Hk]
  · iexists _, (heads x0); isplitr; · ipureintro; rfl
    iexact Hk
  isplitl [Hv]
  · iexists _, (heads x1); isplitr; · ipureintro; rfl
    iexact Hv
  isplitl [Ho]; · iexact Ho
  isplitl [Hov]; · iexact Hov
  isplitl [Hs]; · iexact Hs
  iexact HW

end Cert.Proof.Body

end
-- ==== Proof.Launch.lean ====
/- THE KERNEL'S RUN. @main copies the two inputs to the blocks' shape and launches the one block; it ends with every argument
   as launched, both results at their updated contents, and every semaphore at zero. -/
module

public import proofs.«01_k».proof.Proof.Gen.Kernel.Frame
public import proofs.«01_k».proof.Proof.Body
public import Idealize.ShloMosaic.Lib.Pipeline.FrameValue

@[expose] public section

set_option maxRecDepth 16384

noncomputable section

namespace Cert.Proof.Launch

open Cert.Kernel Cert.Kernel.Gen Cert.Proof.Block Cert.Proof.Regions Cert.Proof.Flights Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the launch: the two inputs copied to the blocks' shape. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the transfers write: the two results. -/
def R0 : Finset (Ref sig .tc) := {main_v2_0, main_v2_1}
theorem R0_sub : R0 ⊆ Pipeline.restRefs sig spec0 \ ∅ := by decide

/-- The body's own cell. -/
abbrev osem0 : Fin 1 → SemLoc sig := fun _ => cell
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), cell) 0 := by
  rw [Pipeline.ownSems0_eq_of_list c osem0 [0] (by decide) (by decide)]; rfl

/-- The two blocks the body reads. -/
abbrev inK (c : Dev nD) : Vec F S8x16x4096 .f32 := iblk m c 0 t0_0
abbrev inV (c : Dev nD) : Vec F S8x16x4096 .f32 := iblk m c 1 t0_0

/-- The buffers after the launch: both results updated, the others as they were. -/
def G (c : Dev nD) : (b : Ref sig .tc) → Buf (Elt F) ((c : Thread nD τ).loc b) :=
  Function.update (Function.update (V m c) main_v2_0 (updated (inK m c))) main_v2_1 (updated (inV m c))

theorem routed_V (c : Dev nD) : (Pipeline.routed R0 c (V m c) : sProp 𝕄)
    = iprop((oK.view.loc (c : Thread nD τ) ↦{fullShare} V m c main_v2_0) ∗ (oV.view.loc (c : Thread nD τ) ↦{fullShare} V m c main_v2_1)) := by
  unfold Pipeline.routed; rw [BI.bigSep_eq_bigSepL_of_eq [main_v2_0, main_v2_1] (by decide) (by decide)]; rfl

theorem routed_G (c : Dev nD) : (Pipeline.routed R0 c (G m c) : sProp 𝕄)
    = iprop((oK.view.loc (c : Thread nD τ) ↦{fullShare} updated (inK m c)) ∗ (oV.view.loc (c : Thread nD τ) ↦{fullShare} updated (inV m c))) := by
  unfold Pipeline.routed G; rw [BI.bigSep_eq_bigSepL_of_eq [main_v2_0, main_v2_1] (by decide) (by decide)]
  simp only [BI.bigSepL_cons_cons, BI.bigSepL_singleton, Function.update_self,
    Function.update_of_ne (show main_v2_0 ≠ main_v2_1 by decide)]
  rfl

/-- What the launch holds beside the blocks, the results at contents `X`. -/
theorem inv_eq (X : (c : Dev nD) → (b : Ref sig .tc) → Buf (Elt F) ((c : Thread nD τ).loc b)) (c : Dev nD) :
    (Pipeline.ΦDRG osem0 spec0 ∅ R0 (V m) X c : sProp 𝕄)
      = iprop(iprop((∃ d, owns (c : Thread nD τ) zM fullShare d) ∗ (∃ d, owns (c : Thread nD τ) kM fullShare d)
          ∗ (∃ d, owns (c : Thread nD τ) vM fullShare d))
        ∗ (∃ r, prngReg c r) ∗ semVal ((c : Thread nD τ), cell) 0 ∗ emp ∗ Pipeline.routed R0 c (X c)) := by
  rw [Pipeline.ΦDRG_eq, scopedRest0_eq, ownSems0_eq, bigSep_empty]
  simp only [zM, kM, vM, owns_whole]; try rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := if p.val = 0 then Pipeline.ΦDRG osem0 spec0 ∅ R0 (V m) (V m) c else Pipeline.ΦDRG osem0 spec0 ∅ R0 (V m) (G m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl

/-- Each block is as the region finds it. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

abbrev ms0 (t : Fin cfg0.N) : Memref sig .tc .vmem S8x16x4096 .f32 := win0_0.stage (cfg0.slots t 0)
abbrev ms1 (t : Fin cfg0.N) : Memref sig .tc .vmem S8x16x4096 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.castSucc = Pipeline.ΦDRG osem0 spec0 ∅ R0 (V m) (V m) c from rfl,
    show (dats m 0 c).Φ t0_0.succ = Pipeline.ΦDRG osem0 spec0 ∅ R0 (V m) (G m) c from rfl, inv_eq, inv_eq, routed_V, routed_G]
  unfold Dat.owesAt Pipeline.owesWithin
  rw [show (dats m 0 c).owed t0_0.castSucc = 0 from rfl, show (dats m 0 c).owed t0_0.succ = 0 from rfl]
  simp only [before0, before1]
  rw [after0, after1]
  iintro ⟨⟨⟨Hz, Hk, Hv⟩, Hg, Hs, He, Ho, Hov⟩, ⟨%W, -, HW⟩, ⟨%d0, H0⟩, ⟨%d1, H1⟩⟩
  iapply (body c _ _ _ _ (inK m c) (inV m c) (V m c main_v2_0) (V m c main_v2_1) _)
  isplitl [H0]; · iexact H0
  isplitl [H1]; · iexact H1
  isplitl [Hz]; · iexact Hz
  isplitl [Hk]; · iexact Hk
  isplitl [Hv]; · iexact Hv
  isplitl [Ho]; · iexact Ho
  isplitl [Hov]; · iexact Hov
  isplitl [Hs]; · iexact Hs
  isplitl [HW]; · iexists W; iexact HW
  iintro ⟨H0, H1, Hz, Hk, Hv, Ho, Hov, Hs, ⟨%W', HW'⟩⟩
  isplitl [Hz Hk Hv Hg Hs He Ho Hov]
  · isplitl [Hz Hk Hv]
    · isplitl [Hz]; · iexact Hz
      isplitl [Hk]; · iexact Hk
      iexact Hv
    isplitl [Hg]; · iexact Hg
    isplitl [Hs]; · iexact Hs
    isplitl [He]; · iexact He
    isplitl [Ho]; · iexact Ho
    iexact Hov
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

end Cert.Proof.Launch

end
-- ==== Proof.KernelRun.lean ====
/- WHAT THE KERNEL ENDS WITH, read at its arguments and results: the arguments as launched, each result the cache with the new
   values, both as functions of the arguments; and the same of the program read with exact values, which is the same text. -/
module

public import proofs.«01_k».proof.KernelIdeal
public import proofs.«01_k».proof.Proof.Gen.KernelIdeal
public import proofs.«01_k».proof.Proof.Launch
public import Idealize.ShloMosaic.Lib.StableHlo.Run
public import Idealize.ShloMosaic.Lib.Pipeline.ValueKit

@[expose] public section

set_option maxRecDepth 16384

noncomputable section

namespace Cert.Proof.KernelRun

open Cert.Kernel Cert.Kernel.Gen Cert.Proof.Block Cert.Proof.Regions Cert.Proof.Launch
open Idealize.ShloMosaic Idealize.ShloMosaic.TcCoe Idealize.ShloMosaic.Tactic
open Idealize.SL.Sem

variable {F : FTy → Type} [FloatOps F]

/-- The incoming values with the heads laid side by side. -/
def flat (x : FVec F S8x16x32x128 .f32) : Vec F S8x16x4096 .f32 := shapeCast S8x16x4096 x shapeCasts_S8x16x32x128_S8x16x4096

variable (m : (ℓ : Loc nD τ sig) → Buf (Elt F) ℓ) (ρ : Dev nD → PrngReg)

/-- The launch finds the first block's array at the flattened keys. -/
theorem V_v0 (c : Dev nD) : V m c main_v0 = flat (m ((c.tc : Thread nD τ).loc main_arg5)) := by
  unfold V
  after_results <;> rfl
/-- … and the second's at the flattened values. -/
theorem V_v1 (c : Dev nD) : V m c main_v1 = flat (m ((c.tc : Thread nD τ).loc main_arg6)) := by
  unfold V
  after_results <;> rfl

/-- Each block is its whole array. -/
theorem inK_eq (c : Dev nD) : inK m c = flat (m ((c.tc : Thread nD τ).loc main_arg5)) := by
  rw [← V_v0]
  unfold inK iblk
  funext i
  refine congrArg (V m c main_v0) (funext fun a => Fin.ext ?_)
  blk_simp
  match a with
  | 0 => simp; rfl
  | 1 => simp; rfl
  | 2 => simp; rfl
theorem inV_eq (c : Dev nD) : inV m c = flat (m ((c.tc : Thread nD τ).loc main_arg6)) := by
  rw [← V_v1]
  unfold inV iblk
  funext i
  refine congrArg (V m c main_v1) (funext fun a => Fin.ext ?_)
  blk_simp
  match a with
  | 0 => simp; rfl
  | 1 => simp; rfl
  | 2 => simp; rfl

/-- How the kernel ends: both results updated, the arguments as launched and every semaphore at zero. -/
def Ends (r : PUnit × MemSt nD τ sig (Elt F)) : Prop :=
  (∀ c : Dev nD,
      r.2.mem ((c.tc : Thread nD τ).loc main_v2_0) = updated (flat (m ((c.tc : Thread nD τ).loc main_arg5)))
      ∧ r.2.mem ((c.tc : Thread nD τ).loc main_v2_1) = updated (flat (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0

set_option backward.isDefEq.respectTransparency.types false in
/-- The kernel runs, and so ends. -/
theorem run : θ_run defs (onTc (τ := τ) (main (F := F))) ⟨m, fun _ => 0, ρ⟩ (Ends m) :=
  (θ_run defs _ _).mono (fun r h => ⟨fun c => by
      have keep : ∀ b, b ∈ Pipeline.restRefs sig spec0 \ R0 → r.2.mem ((c.tc : Thread nD τ).loc b) = V m c b := fun b hb => (h.1.toR c).2 b hb
      refine ⟨(h.1.written c (b := main_v2_0) (by decide)).trans ?_, (h.1.written c (b := main_v2_1) (by decide)).trans ?_,
        (keep main_arg0 ?_).trans (V_main_arg0 m c), (keep main_arg1 ?_).trans (V_main_arg1 m c), (keep main_arg2 ?_).trans (V_main_arg2 m c),
        (keep main_arg3 ?_).trans (V_main_arg3 m c), (keep main_arg4 ?_).trans (V_main_arg4 m c), (keep main_arg5 ?_).trans (V_main_arg5 m c),
        (keep main_arg6 ?_).trans (V_main_arg6 m c), (keep main_arg7 ?_).trans (V_main_arg7 m c), (keep main_arg8 ?_).trans (V_main_arg8 m c)⟩
      · unfold G
        rw [Function.update_of_ne (show main_v2_0 ≠ main_v2_1 by decide), Function.update_self, inK_eq]
      · unfold G
        rw [Function.update_self, inV_eq]
      all_goals exact Finset.mem_sdiff.mpr ⟨Pipeline.mem_restRefs_of _ (by decide) (by decide), by decide⟩, h.2⟩)
    (run_main m ρ)

/-! ## The same program, read with exact values -/

theorem defs₀_same : (Cert.Kernel.defs₀ (F := F)) = Cert.KernelIdeal.defs₀ := by
  unfold Cert.Kernel.defs₀ Cert.KernelIdeal.defs₀
  congr 1
  funext l a
  match l with
  | 0 => rfl

theorem defs_same : (Cert.Kernel.defs (F := F)) = Cert.KernelIdeal.defs := by
  unfold Cert.Kernel.defs Cert.KernelIdeal.defs
  exact congrArg (Pipeline.defs Cert.Kernel.pcfgs) defs₀_same

theorem main_same : (Cert.Kernel.main (F := F)) = Cert.KernelIdeal.main := rfl

theorem run_same (s) (Q) : θ_run (Cert.Kernel.defs (F := F)) (onTc (τ := Cert.Kernel.τ) (Cert.Kernel.main (F := F))) s Q
    = θ_run (Cert.KernelIdeal.defs (F := F)) (onTc (τ := Cert.KernelIdeal.τ) (Cert.KernelIdeal.main (F := F))) s Q :=
  congrArg₂ (fun d p => θ_run (τ := Cert.Kernel.τ) d (onTc (τ := Cert.Kernel.τ) p) s Q) defs_same main_same

/-- The program read with exact values runs, and ends as the kernel does. -/
theorem ideal_run : θ_run (Cert.KernelIdeal.defs (F := F)) (onTc (τ := Cert.KernelIdeal.τ) (Cert.KernelIdeal.main (F := F)))
    ⟨m, fun _ => 0, ρ⟩ (Ends m) :=
  (run_same _ _).mp (run m ρ)

end Cert.Proof.KernelRun

end
-- ==== Proof.Reference.lean ====
/- WHAT THE REFERENCE COMPUTES. Its scatter, at the positions 0, …, 15, overwrites the first 16 tokens of every head with the
   new values, transposed and rounded, and keeps the rest of the cache. And what the precondition says of the two caches and
   of the positions. -/
module

public import proofs.«01_k».proof.Pre_fresh_cache
public import proofs.«01_k».proof.Proof.Gen.Pre_fresh_cache
public import proofs.«01_k».proof.Proof.Gen.ReferenceIdeal
public import Idealize.ShloMosaic.Lib.PointwiseCore
public import Idealize.ShloMosaic.Lib.ReduceAll
public import Idealize.ShloMosaic.Lib.Routing.OpsSet
public import Idealize.ShloMosaic.Lib.Pointwise.Tactic
public import Idealize.ShloMosaic.Lib.Pointwise.Select
public import Idealize.ShloMosaic.PureOps.Ideal

@[expose] public section

noncomputable section

namespace Cert.Proof.Reference

open Cert.ReferenceIdeal Cert.ReferenceIdeal.Gen
open Idealize.ShloMosaic

variable {F : FTy → Type} [FloatOps F]

/-- The scatter's dimension numbers: one index word per update row, on the token axis. -/
abbrev dims : ScatterDims S8x32x4096x128 S16x1 S8x32x16x128 := scatter_S8x32x4096x128_S16x1_S8x32x16x128_013_2_2_1

/-- The index words the scatter reads: a negative position counted from the end of the cache. -/
def words (pos : IVec S16 32) : IVec S16x1 32 :=
  broadcastInDim S16x1 ![0] bcast_S16_S16x1_0
    (select (cmpi .slt pos (broadcastInDim S16 ![] bcast_S_S16 (constantI S_ 32 0#32)))
      (addi pos (broadcastInDim S16 ![] bcast_S_S16 (constantI S_ 32 4096#32))) pos)

/-- The new rows in the cache's layout and format. -/
def rows (x : FVec F S8x16x32x128 .f32) : FVec F S8x32x16x128 .bf16 :=
  truncf .bf16 (transpose S8x32x16x128 [0, 2, 1, 3] x transposes_S8x16x32x128_S8x32x16x128_0_2_1_3) bitsLt_bf16_f32

/-- Word `t` is `t` when the positions are 0, …, 15. -/
theorem words_toInt (pos : IVec S16 32) (hp : ∀ i, pos i = BitVec.ofNat 32 (i 0).val) (i : S16x1.Idx) :
    (words pos i).toInt = (i 0).val := by
  have e : words pos i = Scalar.select (IntOp.cmpi .slt (pos (ix1 (i 0))) 0#32) (IntOp.addi (pos (ix1 (i 0))) 4096#32) (pos (ix1 (i 0))) := by
    idx_vars i
    unfold words
    pointwise
    try rfl
  rw [e, hp]
  show (Scalar.select (IntOp.cmpi .slt (BitVec.ofNat 32 (i 0).val) 0#32) (IntOp.addi (BitVec.ofNat 32 (i 0).val) 4096#32) (BitVec.ofNat 32 (i 0).val)).toInt = _
  generalize (i 0) = t
  revert t
  show ∀ t : Fin 16, _
  decide

variable (idx : IVec S16x1 32) (hidx : ∀ i, (idx i).toInt = (i 0).val)

theorem window0 (j : S8x32x16x128.Idx) : dims.window j 0 = (j 0).val := by unfold ScatterDims.window; rw [dif_pos (by decide)]; rfl
theorem window1 (j : S8x32x16x128.Idx) : dims.window j 1 = (j 1).val := by unfold ScatterDims.window; rw [dif_pos (by decide)]; rfl
theorem window2 (j : S8x32x16x128.Idx) : dims.window j 2 = 0 := by unfold ScatterDims.window; rw [dif_neg (by decide)]
theorem window3 (j : S8x32x16x128.Idx) : dims.window j 3 = (j 3).val := by unfold ScatterDims.window; rw [dif_pos (by decide)]; rfl
theorem start0 (j : S8x32x16x128.Idx) : dims.start j idx 0 = 0 := by unfold ScatterDims.start; rw [dif_neg (by decide)]
theorem start1 (j : S8x32x16x128.Idx) : dims.start j idx 1 = 0 := by unfold ScatterDims.start; rw [dif_neg (by decide)]
theorem start3 (j : S8x32x16x128.Idx) : dims.start j idx 3 = 0 := by unfold ScatterDims.start; rw [dif_neg (by decide)]
include hidx in
theorem start2 (j : S8x32x16x128.Idx) : dims.start j idx 2 = (j 2).val := by
  unfold ScatterDims.start
  rw [dif_pos (by decide), hidx]
  rfl

include hidx in
/-- An update lands at its own batch, head and column, at the token of its row. -/
theorem lands (j : S8x32x16x128.Idx) (i : S8x32x4096x128.Idx) :
    dims.resultIdx? j idx = some i ↔
      (i 0).val = (j 0).val ∧ (i 1).val = (j 1).val ∧ (i 2).val = (j 2).val ∧ (i 3).val = (j 3).val := by
  have b0 : (j 0).val < 8 := (j 0).isLt
  have b1 : (j 1).val < 32 := (j 1).isLt
  have b2 : (j 2).val < 16 := (j 2).isLt
  have b3 : (j 3).val < 128 := (j 3).isLt
  have c0 : dims.start j idx 0 + dims.window j 0 = ((j 0).val : ℤ) := by rw [start0, window0]; omega
  have c1 : dims.start j idx 1 + dims.window j 1 = ((j 1).val : ℤ) := by rw [start1, window1]; omega
  have c2 : dims.start j idx 2 + dims.window j 2 = ((j 2).val : ℤ) := by rw [start2 idx hidx, window2]; omega
  have c3 : dims.start j idx 3 + dims.window j 3 = ((j 3).val : ℤ) := by rw [start3, window3]; omega
  have hin : ∀ a : Fin 4, 0 ≤ dims.start j idx a + dims.window j a ∧ dims.start j idx a + dims.window j a < S8x32x4096x128.size a := by
    intro a
    match a with
    | 0 => rw [c0]; exact ⟨by omega, by show ((j 0).val : ℤ) < (8 : ℕ); omega⟩
    | 1 => rw [c1]; exact ⟨by omega, by show ((j 1).val : ℤ) < (32 : ℕ); omega⟩
    | 2 => rw [c2]; exact ⟨by omega, by show ((j 2).val : ℤ) < (4096 : ℕ); omega⟩
    | 3 => rw [c3]; exact ⟨by omega, by show ((j 3).val : ℤ) < (128 : ℕ); omega⟩
  unfold ScatterDims.resultIdx?
  rw [dif_pos hin]
  constructor
  · intro h
    obtain rfl := Option.some.inj h
    exact ⟨(congrArg Int.toNat c0).trans (Int.toNat_natCast _), (congrArg Int.toNat c1).trans (Int.toNat_natCast _),
      (congrArg Int.toNat c2).trans (Int.toNat_natCast _), (congrArg Int.toNat c3).trans (Int.toNat_natCast _)⟩
  · rintro ⟨h0, h1, h2, h3⟩
    refine congrArg some (funext fun a => Fin.ext ?_)
    show Int.toNat _ = _
    match a with
    | 0 => rw [c0]; omega
    | 1 => rw [c1]; omega
    | 2 => rw [c2]; omega
    | 3 => rw [c3]; omega

include hidx in
/-- The scatter, read at a token it overwrites. -/
theorem scatter_new {α : Type} (x : S8x32x4096x128.Idx → α) (u : S8x32x16x128.Idx → α) (i : S8x32x4096x128.Idx) (h : (i 2).val < 16) :
    Host.scatter dims (fun _ b => b) x idx u i = u (ix4 (i 0) (i 1) ⟨(i 2).val, h⟩ (i 3)) := by
  refine Routing.scatter_set_hit dims x idx u i _ (fun k hk => congrArg u (funext fun a => Fin.ext ?_)) (ix4 (i 0) (i 1) ⟨(i 2).val, h⟩ (i 3))
    ((lands idx hidx _ i).2 ⟨rfl, rfl, rfl, rfl⟩)
  obtain ⟨h0, h1, h2, h3⟩ := (lands idx hidx k i).1 hk
  match a with
  | 0 => exact h0.symm
  | 1 => exact h1.symm
  | 2 => exact h2.symm
  | 3 => exact h3.symm

include hidx in
/-- The scatter, read at a token past the first 16. -/
theorem scatter_old {α : Type} (x : S8x32x4096x128.Idx → α) (u : S8x32x16x128.Idx → α) (i : S8x32x4096x128.Idx) (h : ¬(i 2).val < 16) :
    Host.scatter dims (fun _ b => b) x idx u i = x i := by
  refine Routing.scatter_set_miss dims x idx u i fun k hk => h ?_
  have h2 := ((lands idx hidx k i).1 hk).2.2.1
  have b2 : (k 2).val < 16 := (k 2).isLt
  omega

/-! ## The precondition read back -/

section Pre

variable (a0 a1 : FVec Ideal S8x32x4096x128 .bf16) (a2 : FVec Ideal S8x32x4096 .f16) (a3 : IVec S8x32x4096x16 16)
  (a4 : IVec S16 32) (a5 a6 : FVec Ideal S8x16x32x128 .f32) (a7 : FVec Ideal S8x16x32 .f16) (a8 : IVec S8x16x32x16 32)

/-- An `and` of two one-bit words that is 1 has both 1. -/
theorem and_one {x y : IVec Cert.Pre_fresh_cache.S_ 1} (h : andi x y = fun _ => 1#1) : x = (fun _ => 1#1) ∧ y = fun _ => 1#1 :=
  ⟨funext fun j => (IntOp.andi_eq_one.1 (congrFun h j)).1, funext fun j => (IntOp.andi_eq_one.1 (congrFun h j)).2⟩

instance : Subsingleton Cert.Pre_fresh_cache.S_.Idx := ⟨fun a b => funext fun k => nomatch k⟩

/-- A cache whose every entry compares equal to zero is zero. -/
theorem zero_read (x : FVec Ideal S8x32x4096x128 .bf16)
    (h : Host.reduce IntOp.andi (cmpf .oeq ((extf .f32 · Cert.Pre_fresh_cache.Gen.facts.bitsLt_bf16_f32) x)
        (broadcastInDim S8x32x4096x128 ![] Cert.Pre_fresh_cache.Gen.facts.bcast_S_S8x32x4096x128 (constant Cert.Pre_fresh_cache.S_ .f32 0x00000000#32)))
      (constantI Cert.Pre_fresh_cache.S_ 1 1#1) Cert.Pre_fresh_cache.Gen.facts.reducesTo_S8x32x4096x128_S_d0_1_2_3
      Cert.Pre_fresh_cache.Gen.facts.h_S_ = fun _ => 1#1) (i : S8x32x4096x128.Idx) : x i = 0 := by
  have e := Host.reduce_andi_all _ _ _ _ ix0 (congrFun h ix0) i
  have e' : Ideal.cmp .oeq (x i) (Ideal.ofBits .f32 0x00000000#32) = 1#1 := e
  have z := (Ideal.cmp_oeq_eq_one _ _).1 e'
  exact z.trans (Ideal.ofBits_zero .f32)

/-- `fresh_cache` says both caches are zero everywhere and the positions are 0, …, 15. -/
theorem pre_read (h : @Cert.Pre_fresh_cache.fn Cert.Pre_fresh_cache.Gen.facts Ideal _ a0 a1 a2 a3 a4 a5 a6 a7 a8 = fun _ => 1#1) :
    (∀ i, a0 i = 0) ∧ (∀ i, a1 i = 0) ∧ ∀ i, a4 i = BitVec.ofNat 32 (i 0).val := by
  unfold Cert.Pre_fresh_cache.fn at h
  obtain ⟨h01, h4⟩ := and_one h
  obtain ⟨h0, h1⟩ := and_one h01
  refine ⟨zero_read a0 h0, zero_read a1 h1, fun i => ?_⟩
  have e := Host.reduce_andi_all _ _ _ _ ix0 (congrFun h4 ix0) i
  exact IntOp.cmpi_eq.1 e

end Pre

end Cert.Proof.Reference

end
-- ==== Proof.Value.lean ====
/- THE EQUATION. With both caches zero and the positions 0, …, 15, the kernel's result is the reference's scatter, with exact
   values: on the first 16 tokens both are the new values at the same place, past them both are zero. -/
module

public import proofs.«01_k».proof.Proof.KernelRun
public import proofs.«01_k».proof.Proof.Reference

@[expose] public section

noncomputable section

namespace Cert.Proof.Value

open Cert.Proof.Block Cert.Proof.Regions Cert.Proof.KernelRun Cert.Proof.Reference
open Idealize.ShloMosaic

/-- The kernel's new rows are the reference's. -/
theorem heads_flat (x : FVec Ideal Cert.Kernel.S8x16x32x128 .f32) (y : Cert.Kernel.S8x32x16x128.Idx) :
    heads (flat x) y = rows x y := by
  idx_vars y
  unfold heads flat rows
  pointwise

theorem updated_eq (x : FVec Ideal Cert.Kernel.S8x16x32x128 .f32) (cache : FVec Ideal Cert.Kernel.S8x32x4096x128 .bf16)
    (pos : IVec Cert.Kernel.S16 32) (hc : ∀ i, cache i = 0) (hp : ∀ i, pos i = BitVec.ofNat 32 (i 0).val) :
    updated (flat x) = Host.scatter dims (fun _ b => b) cache (words pos) (rows x) := by
  funext i
  by_cases h : (i 2).val < 16
  · rw [scatter_new (words pos) (words_toInt pos hp) cache (rows x) i h, ← heads_flat]
    unfold updated
    exact dif_pos h
  · rw [scatter_old (words pos) (words_toInt pos hp) cache (rows x) i h, hc]
    unfold updated
    exact (dif_neg h).trans (Ideal.ofBits_zero .bf16)

end Cert.Proof.Value

end
-- ==== Proof.lean ====
/- THE CERTIFICATE. The kernel and the program read with exact values run, leave their arguments and their counters (Launch,
   KernelRun); so does the reference (its run of host operations); with fresh caches and the positions 0, …, 15 the two
   programs end with equal results (Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_fresh_cache
public import proofs.«01_k».proof.Proof.Value
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The kernel runs and leaves its arguments and its counters. -/
theorem kernel_frame : Cert.quiescent_Kernel (hKernel := Cert.Kernel.Gen.facts) := fun m g _ =>
  (θ_run _ _ _).mono (fun _ h => ⟨fun c => (h.1 c).2.2, h.2⟩) (KernelRun.run m g)

/-- So does the program read with exact values. -/
theorem ideal_frame : Cert.quiescent_KernelIdeal (hKernelIdeal := Cert.KernelIdeal.Gen.facts) := fun m g _ =>
  (θ_run _ _ _).mono (fun _ h => ⟨fun c => (h.1 c).2.2, h.2⟩) (KernelRun.ideal_run (F := Ideal) m g)

theorem ideal_frame_pre : Cert.quiescent_KernelIdeal_pre_fresh_cache (hKernelIdeal := Cert.KernelIdeal.Gen.facts)
    (hPre_fresh_cache := Cert.Pre_fresh_cache.Gen.facts) := fun m g _ => ideal_frame m g trivial

/-- The reference runs and leaves its arguments; it has no counters. -/
theorem reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run (F := Ideal) m g)

theorem reference_frame_pre : Cert.quiescent_ReferenceIdeal_pre_fresh_cache (hReferenceIdeal := Cert.ReferenceIdeal.Gen.facts)
    (hPre_fresh_cache := Cert.Pre_fresh_cache.Gen.facts) := fun m g _ => reference_frame m g trivial

/-- With fresh caches and the positions 0, …, 15, kernel and reference end with equal results. -/
theorem equal_results : Cert.algebraic_KernelIdeal_ReferenceIdeal_pre_fresh_cache (hKernelIdeal := Cert.KernelIdeal.Gen.facts)
    (hReferenceIdeal := Cert.ReferenceIdeal.Gen.facts) (hPre_fresh_cache := Cert.Pre_fresh_cache.Gen.facts) := by
  intro m g m' g' hpre hagree
  refine ⟨_, _, (θ_run _ _ _).mono (fun _ h => h.1) (KernelRun.ideal_run (F := Ideal) m g),
    (θ_run _ _ _).mono (fun r h c => ?_) (Cert.ReferenceIdeal.Value.run (F := Ideal) m' g')⟩
  obtain ⟨hk, hv, hp⟩ := Reference.pre_read _ _ _ _ _ _ _ _ _ (hpre c)
  obtain ⟨e0, e1, -, -, e4, e5, e6, -, -⟩ := hagree c
  refine ⟨(h c).1.trans ?_, (h c).2.1.trans ?_, (h c).2.2⟩
  · rw [e0, e4, e5]
    exact (Value.updated_eq _ _ _ hk hp).symm
  · rw [e1, e4, e6]
    exact (Value.updated_eq _ _ _ hv hp).symm

theorem claim : Cert.Claim :=
  ⟨Cert.Kernel.Gen.facts, Cert.KernelIdeal.Gen.facts, Cert.ReferenceIdeal.Gen.facts, Cert.Pre_fresh_cache.Gen.facts,
    kernel_frame, ideal_frame, ideal_frame_pre, reference_frame, reference_frame_pre, trivial, equal_results⟩

end Cert.Proof

end
